-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x16x256 : Shape := ⟨3, ![2048, 16, 256]⟩
abbrev S384x256 : Shape := ⟨2, ![384, 256]⟩
abbrev S384x128 : Shape := ⟨2, ![384, 128]⟩
abbrev S384 : Shape := ⟨1, ![384]⟩
abbrev S10x128 : Shape := ⟨2, ![10, 128]⟩
abbrev S10 : Shape := ⟨1, ![10]⟩
abbrev S16x10 : Shape := ⟨2, ![16, 10]⟩
abbrev S1x16x256 : Shape := ⟨3, ![1, 16, 256]⟩
abbrev S16x256 : Shape := ⟨2, ![16, 256]⟩
abbrev S16x384 : Shape := ⟨2, ![16, 384]⟩
abbrev S1x384 : Shape := ⟨2, ![1, 384]⟩
abbrev S16x128 : Shape := ⟨2, ![16, 128]⟩
abbrev S128 : Shape := ⟨1, ![128]⟩
abbrev S1x128 : Shape := ⟨2, ![1, 128]⟩
abbrev S1x10 : Shape := ⟨2, ![1, 10]⟩
abbrev S16 : Shape := ⟨1, ![16]⟩
abbrev S16x1 : Shape := ⟨2, ![16, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x16x256, .f32⟩
  | .hbm, ⟨1, _⟩ => ⟨S384x256, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S10x128, .f32⟩
  | .hbm, ⟨6, _⟩ => ⟨S10, .f32⟩
  | .hbm, ⟨7, _⟩ => ⟨S16x10, .f32⟩
  | .local _ .vmem, ⟨0, _⟩ => ⟨S1x16x256, .f32⟩
  | .local _ .vmem, ⟨1, _⟩ => ⟨S384x256, .f32⟩
  | .local _ .vmem, ⟨2, _⟩ => ⟨S384, .f32⟩
  | .local _ .vmem, ⟨3, _⟩ => ⟨S384, .f32⟩
  | .local _ .vmem, ⟨4, _⟩ => ⟨S10x128, .f32⟩
  | .local _ .vmem, ⟨5, _⟩ => ⟨S10, .f32⟩
  | .local _ .vmem, ⟨6, _⟩ => ⟨S16x10, .f32⟩
  | _, _ => ⟨S2048x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x16x256 : Shape := ⟨3, ![2048, 16, 256]⟩
abbrev S384x256 : Shape := ⟨2, ![384, 256]⟩
abbrev S384x128 : Shape := ⟨2, ![384, 128]⟩
abbrev S384 : Shape := ⟨1, ![384]⟩
abbrev S10x128 : Shape := ⟨2, ![10, 128]⟩
abbrev S10 : Shape := ⟨1, ![10]⟩
abbrev S_ : Shape := ⟨0, ![]⟩
abbrev S16x128 : Shape := ⟨2, ![16, 128]⟩
abbrev S2048x16x128 : Shape := ⟨3, ![2048, 16, 128]⟩
abbrev S1x16x256 : Shape := ⟨3, ![1, 16, 256]⟩
abbrev S16x256 : Shape := ⟨2, ![16, 256]⟩
abbrev S256x384 : Shape := ⟨2, ![256, 384]⟩
abbrev S16x384 : Shape := ⟨2, ![16, 384]⟩
abbrev S1x384 : Shape := ⟨2, ![1, 384]⟩
abbrev S128x384 : Shape := ⟨2, ![128, 384]⟩
abbrev S1x16x128 : Shape := ⟨3, ![1, 16, 128]⟩
abbrev S128x10 : Shape := ⟨2, ![128, 10]⟩
abbrev S2048x16x10 : Shape := ⟨3, ![2048, 16, 10]⟩
abbrev S1x1x10 : Shape := ⟨3, ![1, 1, 10]⟩
abbrev S1x16x10 : Shape := ⟨3, ![1, 16, 10]⟩
abbrev S16x10 : Shape := ⟨2, ![16, 10]⟩
abbrev S16 : Shape := ⟨1, ![16]⟩
abbrev S16x1 : Shape := ⟨2, ![16, 1]⟩

abbrev nBuf : Space → Nat
  | .hbm => 97
  | .vmem => 0
  | .smem => 0
  | _ => 0

abbrev bufTy : (tb : Table) → Fin (tcTables nBuf tb) → BufTy
  | .hbm, ⟨0, _⟩ => ⟨S2048x16x256, .f32⟩
  | .hbm, ⟨1, _⟩ => ⟨S384x256, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S10x128, .f32⟩
  | .hbm, ⟨6, _⟩ => ⟨S10, .f32⟩
  | .hbm, ⟨7, _⟩ => ⟨S_, .f32⟩
  | .hbm, ⟨8, _⟩ => ⟨S16x128, .f32⟩
  | .hbm, ⟨9, _⟩ => ⟨S_, .f32⟩
  | .hbm, ⟨10, _⟩ => ⟨S2048x16x128, .f32⟩
  | .hbm, ⟨11, _⟩ => ⟨S_, .i32⟩
  | .hbm, ⟨12, _⟩ => ⟨S2048x16x256, .f32⟩
  | .hbm, ⟨13, _⟩ => ⟨S384x256, .f32⟩
  | .hbm, ⟨14, _⟩ => ⟨S384, .f32⟩
  | .hbm, ⟨15, _⟩ => ⟨S384x128, .f32⟩
  | .hbm, ⟨16, _⟩ => ⟨S384, .f32⟩
  | .hbm, ⟨17, _⟩ => ⟨S_, .i32⟩
  | .hbm, ⟨18, _⟩ => ⟨S16x128, .f32⟩
  | .hbm, ⟨19, _⟩ => ⟨S2048x16x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x16x256, .f32⟩
  | .hbm, ⟨25, _⟩ => ⟨S16x256, .f32⟩
  | .hbm, ⟨26, _⟩ => ⟨S256x384, .f32⟩
  | .hbm, ⟨27, _⟩ => ⟨S16x384, .f32⟩
  | .hbm, ⟨28, _⟩ => ⟨S1x384, .f32⟩
  | .hbm, ⟨29, _⟩ => ⟨S16x384, .f32⟩
  | .hbm, ⟨30, _⟩ => ⟨S16x384, .f32⟩
  | .hbm, ⟨31, _⟩ => ⟨S128x384, .f32⟩
  | .hbm, ⟨32, _⟩ => ⟨S16x384, .f32⟩
  | .hbm, ⟨33, _⟩ => ⟨S1x384, .f32⟩
  | .hbm, ⟨34, _⟩ => ⟨S16x384, .f32⟩
  | .hbm, ⟨35, _⟩ => ⟨S16x384, .f32⟩
  | .hbm, ⟨36, _⟩ => ⟨S16x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S16x128, .f32⟩
  | .hbm, ⟨45, _⟩ => ⟨S_, .f32⟩
  | .hbm, ⟨46, _⟩ => ⟨S16x128, .f32⟩
  | .hbm, ⟨47, _⟩ => ⟨S16x128, .f32⟩
  | .hbm, ⟨48, _⟩ => ⟨S_, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S16x128, .f32⟩
  | .hbm, ⟨54, _⟩ => ⟨S_, .f32⟩
  | .hbm, ⟨55, _⟩ => ⟨S16x128, .f32⟩
  | .hbm, ⟨56, _⟩ => ⟨S16x128, .f32⟩
  | .hbm, ⟨57, _⟩ => ⟨S_, .f32⟩
  | .hbm, ⟨58, _⟩ => ⟨S16x128, .f32⟩
  | .hbm, ⟨59, _⟩ => ⟨S16x128, .f32⟩
  | .hbm, ⟨60, _⟩ => ⟨S16x128, .f32⟩
  | .hbm, ⟨61, _⟩ => ⟨S16x128, .f32⟩
  | .hbm, ⟨62, _⟩ => ⟨S16x128, .f32⟩
  | .hbm, ⟨63, _⟩ => ⟨S_, .f32⟩
  | .hbm, ⟨64, _⟩ => ⟨S16x128, .f32⟩
  | .hbm, ⟨65, _⟩ => ⟨S16x128, .f32⟩
  | .hbm, ⟨66, _⟩ => ⟨S16x128, .f32⟩
  | .hbm, ⟨67, _⟩ => ⟨S16x128, .f32⟩
  | .hbm, ⟨68, _⟩ => ⟨S16x128, .f32⟩
  | .hbm, ⟨69, _⟩ => ⟨S1x16x128, .f32⟩
  | .hbm, ⟨70, _⟩ => ⟨S_, .i32⟩
  | .hbm, ⟨71, _⟩ => ⟨S_, .i32⟩
  | .hbm, ⟨72, _⟩ => ⟨S2048x16x128, .f32⟩
  | .hbm, ⟨73, _⟩ => ⟨S_, .i32⟩
  | .hbm, ⟨74, _⟩ => ⟨S_, .i32⟩
  | .hbm, ⟨75, _⟩ => ⟨S128x10, .f32⟩
  | .hbm, ⟨76, _⟩ => ⟨S2048x16x10, .f32⟩
  | .hbm, ⟨77, _⟩ => ⟨S1x1x10, .f32⟩
  | .hbm, ⟨78, _⟩ => ⟨S2048x16x10, .f32⟩
  | .hbm, ⟨79, _⟩ => ⟨S2048x16x10, .f32⟩
  | .hbm, ⟨80, _⟩ => ⟨S1x16x10, .f32⟩
  | .hbm, ⟨81, _⟩ => ⟨S16x10, .f32⟩
  | .hbm, ⟨82, _⟩ => ⟨S_, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S16x1, .f32⟩
  | .hbm, ⟨88, _⟩ => ⟨S16x10, .f32⟩
  | .hbm, ⟨89, _⟩ => ⟨S16x10, .f32⟩
  | .hbm, ⟨90, _⟩ => ⟨S16x10, .f32⟩
  | .hbm, ⟨91, _⟩ => ⟨S_, .f32⟩
  | .hbm, ⟨92, _⟩ => ⟨S16, .f32⟩
  | .hbm, ⟨93, _⟩ => ⟨S16x1, .f32⟩
  | .hbm, ⟨94, _⟩ => ⟨S16x1, .f32⟩
  | .hbm, ⟨95, _⟩ => ⟨S16x10, .f32⟩
  | .hbm, ⟨96, _⟩ => ⟨S16x10, .f32⟩
  | _, _ => ⟨S2048x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_while0c_c_8 : Ref sig .tc := ⟨.hbm, 20, rfl⟩
abbrev main_while0c_v11 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v11 : Ref sig .tc := ⟨.hbm, 25, rfl⟩
abbrev main_while0b_v12 : Ref sig .tc := ⟨.hbm, 26, rfl⟩
abbrev main_while0b_v13 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_v25 : Ref sig .tc := ⟨.hbm, 39, rfl⟩
abbrev main_while0b_v26 : Ref sig .tc := ⟨.hbm, 40, rfl⟩
abbrev main_while0b_v27 : Ref sig .tc := ⟨.hbm, 41, rfl⟩
abbrev main_while0b_v28 : Ref sig .tc := ⟨.hbm, 42, rfl⟩
abbrev main_while0b_v29 : Ref sig .tc := ⟨.hbm, 43, rfl⟩
abbrev main_while0b_v30 : Ref sig .tc := ⟨.hbm, 44, rfl⟩
abbrev main_while0b_cst_8 : Ref sig .tc := ⟨.hbm, 45, rfl⟩
abbrev main_while0b_v31 : Ref sig .tc := ⟨.hbm, 46, rfl⟩
abbrev main_while0b_v32 : Ref sig .tc := ⟨.hbm, 47, rfl⟩
abbrev main_while0b_cst_9 : Ref sig .tc := ⟨.hbm, 48, rfl⟩
abbrev main_while0b_v33 : Ref sig .tc := ⟨.hbm, 49, rfl⟩
abbrev main_while0b_v34 : Ref sig .tc := ⟨.hbm, 50, rfl⟩
abbrev main_while0b_v35 : Ref sig .tc := ⟨.hbm, 51, rfl⟩
abbrev main_while0b_v36 : Ref sig .tc := ⟨.hbm, 52, rfl⟩
abbrev main_while0b_v37 : Ref sig .tc := ⟨.hbm, 53, rfl⟩
abbrev main_while0b_cst_10 : Ref sig .tc := ⟨.hbm, 54, rfl⟩
abbrev main_while0b_v38 : Ref sig .tc := ⟨.hbm, 55, rfl⟩
abbrev main_while0b_v39 : Ref sig .tc := ⟨.hbm, 56, rfl⟩
abbrev main_while0b_cst_11 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_cst_12 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_v49 : Ref sig .tc := ⟨.hbm, 68, rfl⟩
abbrev main_while0b_call1_v0 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_v50 : Ref sig .tc := ⟨.hbm, 72, rfl⟩
abbrev main_while0b_c_13 : Ref sig .tc := ⟨.hbm, 73, rfl⟩
abbrev main_while0b_v51 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_call2_cst : Ref sig .tc := ⟨.hbm, 82, rfl⟩
abbrev main_call2_v0 : Ref sig .tc := ⟨.hbm, 83, rfl⟩
abbrev main_call2_cst_0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_cst_1 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_v10 : Ref sig .tc := ⟨.hbm, 96, rfl⟩

abbrev nD : Nat := 1
abbrev τ : Topo := Topo.v7x

variable {F : FTy → Type} [FloatOps F]

abbrev main_while0_count : Scf.Loop 32 := ⟨0#32, 2048#32, 1#32⟩
-- ==== Proof.Spec.lean ====
/- What both programs compute, index by index over the extended reals: one step of a gated recurrent unit from the zero
   state on the first time slice, a linear layer on the new state, and the logarithm of the softmax of each row. -/
module

public import Idealize.ShloMosaic.PureOps.Ideal
public import Idealize.ShloMosaic.Lib.ValueIdx
public import Idealize.ShloMosaic.Lib.ValueIdxCoords

@[expose] public section

noncomputable section

namespace Cert.Gru

open Idealize.ShloMosaic Idealize.ShloMosaic.ValueIdx

/-- Column `o + u` of the three stacked gates, `o` the offset of the gate and `u` the unit. -/
def unit (o : ℕ) (ho : o ≤ 256) (u : Fin 128) : Fin 384 := ⟨o + u.val, by omega⟩

/-- The input's part of gate column `g` in batch row `r`: the row of the first time slice times the weight row, plus the bias. -/
def inGate (x : (⟨3, ![2048, 16, 256]⟩ : Shape).Idx → EReal) (w : (⟨2, ![384, 256]⟩ : Shape).Idx → EReal)
    (b : (⟨1, ![384]⟩ : Shape).Idx → EReal) (r : Fin 16) (g : Fin 384) : EReal :=
  (∑ k : Fin 256, x (ix3 (0 : Fin 2048) r k) * w (ix2 g k)) + b (ix1 g)

/-- The state after one step from the zero state, given the input's part `gi` and the recurrent bias `b`:
    one minus the update gate, times the candidate. -/
def state (gi : Fin 16 → Fin 384 → EReal) (b : (⟨1, ![384]⟩ : Shape).Idx → EReal) (r : Fin 16) (u : Fin 128) : EReal :=
  (1 - Ideal.logistic (gi r (unit 128 (by decide) u) + b (ix1 (unit 128 (by decide) u))))
    * Ideal.tanh (gi r (unit 256 (by decide) u)
        + Ideal.logistic (gi r (unit 0 (by decide) u) + b (ix1 (unit 0 (by decide) u))) * b (ix1 (unit 256 (by decide) u)))

/-- The linear layer: logit `t` of batch row `r`. -/
def logit (h : Fin 16 → Fin 128 → EReal) (w : (⟨2, ![10, 128]⟩ : Shape).Idx → EReal) (b : (⟨1, ![10]⟩ : Shape).Idx → EReal)
    (r : Fin 16) (t : Fin 10) : EReal :=
  (∑ u : Fin 128, h r u * w (ix2 t u)) + b (ix1 t)

/-- The largest entry of a row of ten. -/
def top (l : Fin 10 → EReal) : EReal := (Finset.univ : Finset (Fin 10)).fold max ⊥ l

/-- The logarithm of the softmax of a row of ten, shifted by the row's largest entry. -/
def logSoftmax (l : Fin 10 → EReal) (t : Fin 10) : EReal :=
  (l t - top l) - Ideal.log (∑ s : Fin 10, Ideal.exp (l s - top l))

/-- The ten logits of batch row `r`, from the six arrays the result depends on. -/
def logits (x : (⟨3, ![2048, 16, 256]⟩ : Shape).Idx → EReal) (wi : (⟨2, ![384, 256]⟩ : Shape).Idx → EReal)
    (bi bh : (⟨1, ![384]⟩ : Shape).Idx → EReal) (wf : (⟨2, ![10, 128]⟩ : Shape).Idx → EReal)
    (bf : (⟨1, ![10]⟩ : Shape).Idx → EReal) (r : Fin 16) (t : Fin 10) : EReal :=
  logit (state (inGate x wi bi) bh) wf bf r t

/-- The result array, index by index. -/
def result (x : (⟨3, ![2048, 16, 256]⟩ : Shape).Idx → EReal) (wi : (⟨2, ![384, 256]⟩ : Shape).Idx → EReal)
    (bi bh : (⟨1, ![384]⟩ : Shape).Idx → EReal) (wf : (⟨2, ![10, 128]⟩ : Shape).Idx → EReal)
    (bf : (⟨1, ![10]⟩ : Shape).Idx → EReal) : (⟨2, ![16, 10]⟩ : Shape).Idx → EReal :=
  fun j => logSoftmax (logits x wi bi bh wf bf (j 0)) (j 1)

/-- The pattern of minus infinity denotes the least extended real. -/
theorem ofBits_negInf : Ideal.ofBits .f32 0xFF800000#32 = ⊥ := by simp [Ideal.ofBits, Ideal.ieee]

end Cert.Gru

end
-- ==== Proof.Payload.lean ====
/- What one block of the kernel computes: the body's payload, read at an index, is the shifted logits of the specification. -/
module

public import proofs.«01_k».proof.Proof.Spec
public import proofs.«01_k».proof.Proof.Gen.KernelIdeal.Value
public import Idealize.ShloMosaic.PureOps.Ideal.Laws
public import Idealize.ShloMosaic.Lib.MatmulPlain
public import Idealize.ShloMosaic.Lib.IdealHost
public import Idealize.ShloMosaic.Lib.ValueLayout
public import Idealize.ShloMosaic.Lib.ValueLayoutCasts

@[expose] public section

noncomputable section

namespace Cert.KernelIdeal.Gru

open Cert.KernelIdeal Cert.KernelIdeal.Gen Idealize.ShloMosaic Idealize.ShloMosaic.ValueIdx
open Cert.Gru (unit)

variable (v0 : FVec Ideal S1x16x256 .f32) (v2 : FVec Ideal S384x256 .f32) (v4 v8 : FVec Ideal S384 .f32)
  (v31 : FVec Ideal S10x128 .f32) (v33 : FVec Ideal S10 .f32)

/-- The input's part of the gates, as the body computes it. -/
def gates : FVec Ideal S16x384 .f32 :=
  addf (matmul dot_S16x256_S384x256_S16x384_1_1_0_0_n_n none (shapeCast S16x256 v0 shapeCasts_S1x16x256_S16x256) v2
      (constant S16x384 .f32 0x00000000#32))
    (broadcastTo S16x384 (shapeCast S1x384 v4 shapeCasts_S384_S1x384) broadcasts_S1x384_S16x384)

/-- A stretch of the recurrent bias repeated over the batch, as the body computes it. -/
def biasRows (o : ℕ) (h : S384.Slices ![o] S128) : FVec Ideal S16x128 .f32 :=
  broadcastTo S16x128 (shapeCast S1x128 (extractStridedSlice S128 ![o] v8 h) shapeCasts_S128_S1x128) broadcasts_S1x128_S16x128

/-- The new state, as the body computes it from the gates `v7`. -/
def newState (v7 : FVec Ideal S16x384 .f32) : FVec Ideal S16x128 .f32 :=
  mulf (subf (broadcast S16x128 (Scalar.ofBits .f32 0x3F800000#32))
      (logistic (addf (extractStridedSlice S16x128 ![0, 128] v7 slices_S16x384_o0_128_S16x128) (biasRows v8 128 slices_S384_o128_S128))))
    (tanh (addf (extractStridedSlice S16x128 ![0, 256] v7 slices_S16x384_o0_256_S16x128)
      (mulf (logistic (addf (extractStridedSlice S16x128 ![0, 0] v7 slices_S16x384_o0_0_S16x128) (biasRows v8 0 slices_S384_o0_S128)))
        (biasRows v8 256 slices_S384_o256_S128))))

/-- The logits, as the body computes them from the new state `v30`. -/
def scores (v30 : FVec Ideal S16x128 .f32) : FVec Ideal S16x10 .f32 :=
  addf (matmul dot_S16x128_S10x128_S16x10_1_1_0_0_n_n none v30 v31 (constant S16x10 .f32 0x00000000#32))
    (broadcastTo S16x10 (shapeCast S1x10 v33 shapeCasts_S10_S1x10) broadcasts_S1x10_S16x10)

/-- An array less the largest entry of each row, as the body computes it. -/
def shifted (v36 : FVec Ideal S16x10 .f32) : FVec Ideal S16x10 .f32 :=
  subf v36 (broadcastTo S16x10 (shapeCast S16x1
    (multiReduction .maximumf [1] S16 v36 0xFF800000#32 reduces_S16x10_S16 (.inl rfl) rfl) shapeCasts_S16_S16x1) broadcasts_S16x1_S16x10)

/-- The body's first payload is these pieces in turn. -/
theorem pay2_eq : k0_pay2 v0 v2 v4 v8 v31 v33 = shifted (scores v31 v33 (newState v8 (gates v0 v2 v4))) := rfl

/-- The gates at batch row `r` and column `g`. -/
theorem gates_apply (r : Fin 16) (g : Fin 384) : gates v0 v2 v4 (ix2 r g)
    = (∑ k : Fin 256, v0 (ix3 (0 : Fin 1) r k) * v2 (ix2 g k)) + v4 (ix1 g) := by
  unfold gates
  rw [addf_apply, broadcastTo_1b_ab_apply, shapeCast_a_1a_apply]
  refine congrArg (· + v4 (ix1 g)) ?_
  refine (Ideal.matmul_transposedRhs_apply (M := 16) (K := 256) (N := 384) none _ _ _ r g).trans ?_
  rw [constant_apply, Ideal.ofBits_zero_f32, zero_add]
  exact Finset.sum_congr rfl fun k _ => by rw [shapeCast_1ab_ab_apply]

/-- The repeated bias at any row and unit `u` is the bias at the unit's column. -/
theorem biasRows_apply (o : ℕ) (ho : o ≤ 256) (h : S384.Slices ![o] S128) (r : Fin 16) (u : Fin 128) :
    biasRows v8 o h (ix2 r u) = v8 (ix1 (unit o ho u)) := by
  unfold biasRows
  rw [broadcastTo_1b_ab_apply, shapeCast_a_1a_apply]
  exact extractStridedSlice_apply _ _ _ _ _ fun a => match a with | ⟨0, _⟩ => rfl

/-- The slice of the gates at offset `o` reads the gates at the unit's column. -/
theorem gate_slice (o : ℕ) (ho : o ≤ 256) (v7 : FVec Ideal S16x384 .f32) (h : S16x384.Slices ![0, o] S16x128) (r : Fin 16)
    (u : Fin 128) : extractStridedSlice S16x128 ![0, o] v7 h (ix2 r u) = v7 (ix2 r (unit o ho u)) :=
  slice2_axis1_apply o v7 h r u (unit o ho u) rfl

/-- The new state at batch row `r` and unit `u` is the specification's. -/
theorem newState_apply (v7 : FVec Ideal S16x384 .f32) (r : Fin 16) (u : Fin 128) :
    newState v8 v7 (ix2 r u) = Cert.Gru.state (fun r g => v7 (ix2 r g)) v8 r u := by
  show (Ideal.ofBits .f32 0x3F800000#32 - Ideal.logistic (extractStridedSlice S16x128 ![0, 128] v7 slices_S16x384_o0_128_S16x128 (ix2 r u)
        + biasRows v8 128 slices_S384_o128_S128 (ix2 r u)))
      * Ideal.tanh (extractStridedSlice S16x128 ![0, 256] v7 slices_S16x384_o0_256_S16x128 (ix2 r u)
        + Ideal.logistic (extractStridedSlice S16x128 ![0, 0] v7 slices_S16x384_o0_0_S16x128 (ix2 r u)
            + biasRows v8 0 slices_S384_o0_S128 (ix2 r u)) * biasRows v8 256 slices_S384_o256_S128 (ix2 r u)) = _
  rw [gate_slice 128 (by decide), gate_slice 256 (by decide), gate_slice 0 (by decide), biasRows_apply v8 128 (by decide),
    biasRows_apply v8 0 (by decide), biasRows_apply v8 256 (by decide), Ideal.ofBits_one_f32]
  rfl

/-- The logits at batch row `r` and class `t` are the specification's. -/
theorem scores_apply (v30 : FVec Ideal S16x128 .f32) (r : Fin 16) (t : Fin 10) :
    scores v31 v33 v30 (ix2 r t) = Cert.Gru.logit (fun r u => v30 (ix2 r u)) v31 v33 r t := by
  unfold scores
  rw [addf_apply, broadcastTo_1b_ab_apply, shapeCast_a_1a_apply]
  refine congrArg (· + v33 (ix1 t)) ?_
  refine (Ideal.matmul_transposedRhs_apply (M := 16) (K := 128) (N := 10) none _ _ _ r t).trans ?_
  rw [constant_apply, Ideal.ofBits_zero_f32, zero_add]

/-- Inserting column `k` into the row index `r` is the index `(r, k)`. -/
theorem lift_row (r : Fin 16) (k : Fin 10) : reduces_S16x10_S16.lift (ix1 r) k = ix2 r k := by
  funext a; apply Fin.ext
  match a with | ⟨0, _⟩ => rfl | ⟨1, _⟩ => rfl

/-- The maximum reduction of a row is the row's largest entry. -/
theorem rowMax_apply (v36 : FVec Ideal S16x10 .f32) (r : Fin 16) :
    multiReduction .maximumf [1] S16 v36 0xFF800000#32 reduces_S16x10_S16 (.inl rfl) rfl (ix1 r)
      = Cert.Gru.top fun t => v36 (ix2 r t) := by
  refine (Ideal.multiReduction_maximumf_single v36 _ reduces_S16x10_S16 (.inl rfl) rfl (ix1 r)).trans ?_
  rw [show FloatOps.ofBits (F := Ideal) .f32 (FKind.maximumf.neutral .f32 (.inl rfl)) = ⊥ from Cert.Gru.ofBits_negInf]
  exact Finset.fold_congr fun k _ => congrArg v36 (lift_row r k)

/-- The add reduction of a row is the row's sum. -/
theorem rowSum_apply (v41 : FVec Ideal S16x10 .f32) (r : Fin 16) :
    multiReduction .add [1] S16 v41 0x00000000#32 reduces_S16x10_S16 (.inl rfl) rfl (ix1 r) = ∑ t : Fin 10, v41 (ix2 r t) := by
  refine (Ideal.multiReduction_add_single v41 _ reduces_S16x10_S16 (.inl rfl) rfl (ix1 r)).trans ?_
  exact Finset.sum_congr rfl fun k _ => congrArg v41 (lift_row r k)

/-- A shifted array at an index is the entry less its row's largest entry. -/
theorem shifted_apply (v36 : FVec Ideal S16x10 .f32) (r : Fin 16) (t : Fin 10) :
    shifted v36 (ix2 r t) = v36 (ix2 r t) - Cert.Gru.top fun t => v36 (ix2 r t) := by
  unfold shifted
  rw [subf_apply]
  refine congrArg (v36 (ix2 r t) - ·) ?_
  refine (broadcastTo_apply _ _ (ix2 r t) (ix2 r (0 : Fin 1)) fun a => match a with | ⟨0, _⟩ => rfl | ⟨1, _⟩ => rfl).trans ?_
  rw [shapeCast_a_a1_apply, rowMax_apply]

/-- The body's payload at batch row `r` and class `t`. -/
theorem pay2_apply (r : Fin 16) (t : Fin 10) : k0_pay2 (F := Ideal) v0 v2 v4 v8 v31 v33 (ix2 r t)
    = (let l := Cert.Gru.logit (Cert.Gru.state (fun r g => (∑ k : Fin 256, v0 (ix3 (0 : Fin 1) r k) * v2 (ix2 g k)) + v4 (ix1 g)) v8) v31 v33 r
       l t - Cert.Gru.top l) := by
  have hg : (fun (r : Fin 16) (g : Fin 384) => gates v0 v2 v4 (ix2 r g))
      = fun r g => (∑ k : Fin 256, v0 (ix3 (0 : Fin 1) r k) * v2 (ix2 g k)) + v4 (ix1 g) :=
    funext fun r => funext fun g => gates_apply v0 v2 v4 r g
  have hh : (fun (r : Fin 16) (u : Fin 128) => newState v8 (gates v0 v2 v4) (ix2 r u)) = Cert.Gru.state _ v8 :=
    (funext fun r => funext fun u => newState_apply v8 (gates v0 v2 v4) r u).trans (congrArg (Cert.Gru.state · v8) hg)
  have hl : (fun t : Fin 10 => scores v31 v33 (newState v8 (gates v0 v2 v4)) (ix2 r t)) = Cert.Gru.logit _ v31 v33 r :=
    (funext fun t => scores_apply v31 v33 _ r t).trans (congrArg (Cert.Gru.logit · v31 v33 r) hh)
  rw [pay2_eq, shifted_apply, congrFun hl t, hl]

/-- What the body leaves in the output block, at batch row `r` and class `t`: the logarithm of the softmax. -/
theorem block_apply (r : Fin 16) (t : Fin 10) : Value.E6 (F := Ideal) v0 v2 v4 v8 v31 v33 (ix2 r t)
    = Cert.Gru.logSoftmax (Cert.Gru.logit (Cert.Gru.state
        (fun r g => (∑ k : Fin 256, v0 (ix3 (0 : Fin 1) r k) * v2 (ix2 g k)) + v4 (ix1 g)) v8) v31 v33 r) t := by
  have e0 : Value.ix6_0 (ix2 r t) = ix2 r t := by funext a; match a with | ⟨0, _⟩ => rfl | ⟨1, _⟩ => rfl
  have e1 : Value.ix6_1 (ix2 r t) = ix1 r := by funext a; match a with | ⟨0, _⟩ => rfl
  show k0_pay2 (F := Ideal) v0 v2 v4 v8 v31 v33 (Value.ix6_0 (ix2 r t))
    - Ideal.log (multiReduction (F := Ideal) .add [1] S16 (exp (k0_pay2 v0 v2 v4 v8 v31 v33)) 0x00000000#32 reduces_S16x10_S16 (.inl rfl) rfl
        (Value.ix6_1 (ix2 r t))) = _
  rw [e0, e1, rowSum_apply, pay2_apply]
  unfold Cert.Gru.logSoftmax
  refine congrArg (fun z => _ - Ideal.log z) (Finset.sum_congr rfl fun s _ => ?_)
  show Ideal.exp (k0_pay2 (F := Ideal) v0 v2 v4 v8 v31 v33 (ix2 r s)) = _
  rw [pay2_apply]

end Cert.KernelIdeal.Gru

end
-- ==== Proof.KernelArray.lean ====
/- What the kernel's result array holds after its run: the one grid point reads whole arrays (of the sequence, the first
   time slice) and writes the whole result, which is the specification's result of the argument arrays. -/
module

public import proofs.«01_k».proof.Proof.Payload
public import Idealize.ShloMosaic.Lib.Pipeline.ValueKit.Geometry

@[expose] public section

noncomputable section

namespace Cert.KernelIdeal.Gru

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- Window 0's block is the first time slice of the sequence. -/
theorem block0 (c : Dev nD) (t : Fin cfg0.N) (y : S1x16x256.Idx) :
    iblk m c 0 t y = m ((c : Thread nD τ).loc main_arg0) (ix3 (0 : Fin 2048) (y 1) (y 2)) := by
  obtain rfl : t = t0_0 := fin_N0 t
  unfold iblk
  rw [View.read_apply]
  show V m c main_arg0 _ = _
  rw [V_main_arg0]
  refine congrArg _ (funext fun a => Fin.ext ?_)
  have hy : (y 0).val < 1 := (y 0).isLt
  match a with
  | ⟨0, _⟩ => show win0_0.index t0_0 0 * 1 + 1 * (y 0).val = 0
              rw [show win0_0.index t0_0 0 = 0 from by decide +kernel]; omega
  | ⟨1, _⟩ => show win0_0.index t0_0 1 * 16 + 1 * (y 1).val = (y 1).val
              rw [show win0_0.index t0_0 1 = 0 from by decide +kernel]; omega
  | ⟨2, _⟩ => show win0_0.index t0_0 2 * 256 + 1 * (y 2).val = (y 2).val
              rw [show win0_0.index t0_0 2 = 0 from by decide +kernel]; omega

/-- Window 1's block is the whole input weight. -/
theorem block1 (c : Dev nD) (t : Fin cfg0.N) : iblk m c 1 t = m ((c : Thread nD τ).loc main_arg1) := by
  obtain rfl : t = t0_0 := fin_N0 t
  funext y
  unfold iblk
  rw [View.read_apply]
  show V m c main_arg1 _ = _
  rw [V_main_arg1]
  refine congrArg _ (funext fun a => Fin.ext ?_)
  match a with
  | ⟨0, _⟩ => show win0_1.index t0_0 0 * 384 + 1 * (y 0).val = (y 0).val
              rw [show win0_1.index t0_0 0 = 0 from by decide +kernel]; omega
  | ⟨1, _⟩ => show win0_1.index t0_0 1 * 256 + 1 * (y 1).val = (y 1).val
              rw [show win0_1.index t0_0 1 = 0 from by decide +kernel]; omega

/-- Window 2's block is the whole input bias. -/
theorem block2 (c : Dev nD) (t : Fin cfg0.N) : iblk m c 2 t = m ((c : Thread nD τ).loc main_arg3) := by
  obtain rfl : t = t0_0 := fin_N0 t
  funext y
  unfold iblk
  rw [View.read_apply]
  show V m c main_arg3 _ = _
  rw [V_main_arg3]
  refine congrArg _ (funext fun a => Fin.ext ?_)
  match a with
  | ⟨0, _⟩ => show win0_2.index t0_0 0 * 384 + 1 * (y 0).val = (y 0).val
              rw [show win0_2.index t0_0 0 = 0 from by decide +kernel]; omega

/-- Window 3's block is the whole recurrent bias. -/
theorem block3 (c : Dev nD) (t : Fin cfg0.N) : iblk m c 3 t = m ((c : Thread nD τ).loc main_arg4) := by
  obtain rfl : t = t0_0 := fin_N0 t
  funext y
  unfold iblk
  rw [View.read_apply]
  show V m c main_arg4 _ = _
  rw [V_main_arg4]
  refine congrArg _ (funext fun a => Fin.ext ?_)
  match a with
  | ⟨0, _⟩ => show win0_3.index t0_0 0 * 384 + 1 * (y 0).val = (y 0).val
              rw [show win0_3.index t0_0 0 = 0 from by decide +kernel]; omega

/-- Window 4's block is the whole weight of the linear layer. -/
theorem block4 (c : Dev nD) (t : Fin cfg0.N) : iblk m c 4 t = m ((c : Thread nD τ).loc main_arg5) := by
  obtain rfl : t = t0_0 := fin_N0 t
  funext y
  unfold iblk
  rw [View.read_apply]
  show V m c main_arg5 _ = _
  rw [V_main_arg5]
  refine congrArg _ (funext fun a => Fin.ext ?_)
  match a with
  | ⟨0, _⟩ => show win0_4.index t0_0 0 * 10 + 1 * (y 0).val = (y 0).val
              rw [show win0_4.index t0_0 0 = 0 from by decide +kernel]; omega
  | ⟨1, _⟩ => show win0_4.index t0_0 1 * 128 + 1 * (y 1).val = (y 1).val
              rw [show win0_4.index t0_0 1 = 0 from by decide +kernel]; omega

/-- Window 5's block is the whole bias of the linear layer. -/
theorem block5 (c : Dev nD) (t : Fin cfg0.N) : iblk m c 5 t = m ((c : Thread nD τ).loc main_arg6) := by
  obtain rfl : t = t0_0 := fin_N0 t
  funext y
  unfold iblk
  rw [View.read_apply]
  show V m c main_arg6 _ = _
  rw [V_main_arg6]
  refine congrArg _ (funext fun a => Fin.ext ?_)
  match a with
  | ⟨0, _⟩ => show win0_5.index t0_0 0 * 10 + 1 * (y 0).val = (y 0).val
              rw [show win0_5.index t0_0 0 = 0 from by decide +kernel]; omega

/-- The specification's result of the kernel's argument arrays, as contents of the result array. -/
abbrev result (c : Dev nD) : Buf (Elt Ideal) ((c : Thread nD τ).loc main_v0) :=
  Cert.Gru.result (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6))

/-- What the body leaves in the output block is the result. -/
theorem after_apply (c : Dev nD) (t : Fin cfg0.N) (y : S16x10.Idx) : (dats m 0 c).after 6 t y = result m c y := by
  have z3 : (![0, 0, 0] : Fin 3 → Nat) = fun _ => 0 := funext fun a => by fin_cases a <;> rfl
  have z2 : (![0, 0] : Fin 2 → Nat) = fun _ => 0 := funext fun a => by fin_cases a <;> rfl
  have z1 : (![0] : Fin 1 → Nat) = fun _ => 0 := funext fun a => by fin_cases a <;> rfl
  rw [after0_6]
  unfold out0_6
  rw [View.ld_unit_zero (S := S1x16x256) z3, View.ld_unit_zero (S := S384x256) z2, View.ld_unit_zero (S := S384) z1,
    View.ld_unit_zero (S := S384) z1, View.ld_unit_zero (S := S10x128) z2, View.ld_unit_zero (S := S10) z1]
  refine (Value.canon6_eq _ _ _ _ _ _ y).trans ?_
  obtain ⟨r, k, rfl⟩ : ∃ (r : Fin 16) (k : Fin 10), y = ix2 r k := ⟨y 0, y 1, eq_ix2 y⟩
  rw [block_apply, block1, block2, block3, block4, block5]
  refine congrArg (fun g => Cert.Gru.logSoftmax (Cert.Gru.logit (Cert.Gru.state g _) _ _ r) k) (funext fun r => funext fun g => ?_)
  exact congrArg (· + _) (Finset.sum_congr rfl fun q _ => congrArg (· * _) (block0 m c t _))

/-- The result array ends holding the result. -/
theorem array_eq (c : Dev nD) : (dats m 0 c).arrAt 6 cfg0.N = result m c := by
  refine (dats m 0 c).arrAt_eq_of_covers 6 (result m c) (by decide +kernel) fun t _ y => ?_
  refine (after_apply m c t y).trans (congrArg (result m c) (funext fun a => Fin.ext ?_))
  obtain rfl : t = t0_0 := fin_N0 t
  match a with
  | ⟨0, _⟩ => show (y 0).val = win0_6.index t0_0 0 * 16 + 1 * (y 0).val
              rw [show win0_6.index t0_0 0 = 0 from by decide +kernel]; omega
  | ⟨1, _⟩ => show (y 1).val = win0_6.index t0_0 1 * 10 + 1 * (y 1).val
              rw [show win0_6.index t0_0 1 = 0 from by decide +kernel]; omega

end Cert.KernelIdeal.Gru

end
-- ==== Proof.RefTrip.lean ====
/- What one trip of the reference's loop computes: the gates and the new state at an index, from the carried buffers; and
   the trip from the zero state, which is the specification's step. -/
module

public import proofs.«01_k».proof.Proof.Spec
public import proofs.«01_k».proof.Proof.Gen.ReferenceIdeal.Run
public import Idealize.ShloMosaic.Lib.IdealHost
public import Idealize.ShloMosaic.Lib.KernelVsHost
public import Idealize.ShloMosaic.Lib.StackMember
public import Idealize.ShloMosaic.Lib.ValueLayout
public import Idealize.ShloMosaic.Lib.ValueLayoutCasts
public import Idealize.ShloMosaic.Lib.DynamicIndex

@[expose] public section

noncomputable section

namespace Cert.ReferenceIdeal.Gru

open Cert.ReferenceIdeal Cert.ReferenceIdeal.Gen Cert.ReferenceIdeal.Value Idealize.ShloMosaic Idealize.ShloMosaic.TcCoe
  Idealize.ShloMosaic.StableHlo Idealize.ShloMosaic.ValueIdx
open Cert.Gru (unit)

/-- A bias of 384 entries repeated over the batch reads the bias at the column. -/
theorem biasRows_apply (b : FVec Ideal S384 .f32) (r : Fin 16) (g : Fin 384) :
    broadcastInDim S16x384 ![0, 1] bcast_S1x384_S16x384_0_1 (broadcastInDim S1x384 ![1] bcast_S384_S1x384_1 b) (ix2 r g) = b (ix1 g) := by
  rw [broadcastInDim_oneRow_apply]
  exact broadcastInDim_apply _ _ _ _ _ fun a => match a with | ⟨0, _⟩ => rfl

/-- The splat of one reads one. -/
theorem ones_apply (j : S16x128.Idx) :
    broadcastInDim S16x128 ![] bcast_S_S16x128 (constant (F := Ideal) S_ .f32 0x3F800000#32) j = (1 : EReal) := by
  rw [broadcastInDim_scalar_apply, constant_apply]
  exact Ideal.ofBits_one_f32

variable (V0 : Valuation τ sig (Elt Ideal))

/-- The trip's input part of the gates. -/
abbrev gi : FVec Ideal S16x384 .f32 := res_main_while0b_v16 V0
/-- The trip's recurrent part of the gates. -/
abbrev gh : FVec Ideal S16x384 .f32 := res_main_while0b_v21 V0
/-- The trip's update gate. -/
abbrev zt : FVec Ideal S16x128 .f32 := res_main_while0b_v41 V0
/-- The trip's new state. -/
abbrev ht : FVec Ideal S16x128 .f32 := res_main_while0b_v49 V0
/-- The state before the trip. -/
abbrev hp : FVec Ideal S16x128 .f32 := V0 (Proc.devRef .tc main_v2_6)

/-- While the counter is zero the input's part of the gates is the specification's, on the first time slice. -/
theorem inGate_eq (hc : V0 (Proc.devRef .tc main_v2_5) = fun _ => (0#32 : BitVec 32)) (r : Fin 16) (g : Fin 384) :
    gi V0 (ix2 r g) = Cert.Gru.inGate (V0 (Proc.devRef .tc main_v2_0)) (V0 (Proc.devRef .tc main_v2_1))
      (V0 (Proc.devRef .tc main_v2_2)) r g := by
  unfold gi res_main_while0b_v16
  rw [hc]
  refine (addf_apply _ _ _).trans ?_
  rw [biasRows_apply]
  refine congrArg (· + _) ?_
  refine (StackMember.dotGeneral_plain_apply (m := 16) (k := 256) (n := 384) none _ _ r g).trans ?_
  refine Finset.sum_congr rfl fun k _ => ?_
  rw [transpose_ix2_apply, shapeCast_1ab_ab_apply,
    Host.dynamicSlice_eq_extractStridedSlice S1x16x256 _ _ ![0, 0, 0] _ (by decide) (fun a => by fin_cases a <;> rfl)]
  refine congrArg (· * _) (extractStridedSlice_apply _ _ _ _ (ix3 (0 : Fin 2048) r k) fun a => ?_)
  match a with
  | ⟨0, _⟩ => rfl
  | ⟨1, _⟩ => exact (Nat.zero_add _).symm
  | ⟨2, _⟩ => exact (Nat.zero_add _).symm

/-- From the zero state the recurrent part of the gates is the recurrent bias. -/
theorem recGate_eq (hh : V0 (Proc.devRef .tc main_v2_6) = fun _ => (0 : EReal)) (r : Fin 16) (g : Fin 384) :
    gh V0 (ix2 r g) = V0 (Proc.devRef .tc main_v2_4) (ix1 g) := by
  unfold gh res_main_while0b_v21
  rw [hh]
  refine (addf_apply _ _ _).trans ?_
  rw [biasRows_apply]
  refine (congrArg (· + _) ?_).trans (zero_add _)
  refine (StackMember.dotGeneral_plain_apply (m := 16) (k := 128) (n := 384) none _ _ r g).trans ?_
  exact Finset.sum_eq_zero fun k _ => zero_mul _

/-- A slice of the gates at offset `o` reads the unit's column. -/
theorem gate_slice (o : ℕ) (ho : o ≤ 256) (v : FVec Ideal S16x384 .f32) (h : S16x384.Slices ![0, o] S16x128) (r : Fin 16)
    (u : Fin 128) : extractStridedSlice S16x128 ![0, o] v h (ix2 r u) = v (ix2 r (unit o ho u)) :=
  slice2_axis1_apply o v h r u (unit o ho u) rfl

/-- The host's one over one plus the exponential of the negation is the logistic function. -/
theorem logistic_eq (v : FVec Ideal S16x128 .f32) (j : S16x128.Idx) :
    Host.divf (broadcastInDim S16x128 ![] bcast_S_S16x128 (constant (F := Ideal) S_ .f32 0x3F800000#32))
      (addf (broadcastInDim S16x128 ![] bcast_S_S16x128 (constant (F := Ideal) S_ .f32 0x3F800000#32)) (Host.exp (Host.negf v))) j
      = Ideal.logistic (v j) := by
  rw [hostDivf_apply, addf_apply, ones_apply]
  rfl

/-- The update gate at batch row `r` and unit `u`. -/
theorem update_apply (r : Fin 16) (u : Fin 128) : zt V0 (ix2 r u)
    = Ideal.logistic (gi V0 (ix2 r (unit 128 (by decide) u)) + gh V0 (ix2 r (unit 128 (by decide) u))) := by
  unfold zt res_main_while0b_v41
  refine (logistic_eq _ _).trans ?_
  rw [addf_apply, gate_slice 128 (by decide), gate_slice 128 (by decide)]

/-- The new state at batch row `r` and unit `u`, from the gates and the state before. -/
theorem state_apply (r : Fin 16) (u : Fin 128) : ht V0 (ix2 r u)
    = (1 - zt V0 (ix2 r u))
        * Ideal.tanh (gi V0 (ix2 r (unit 256 (by decide) u))
          + Ideal.logistic (gi V0 (ix2 r (unit 0 (by decide) u)) + gh V0 (ix2 r (unit 0 (by decide) u)))
            * gh V0 (ix2 r (unit 256 (by decide) u)))
      + zt V0 (ix2 r u) * hp V0 (ix2 r u) := by
  unfold ht res_main_while0b_v49
  refine (addf_apply _ _ _).trans (congrArg (· + _) ?_)
  refine (mulf_apply _ _ _).trans ?_
  refine congrArg₂ (· * ·) ((subf_apply _ _ _).trans (congrArg (· - _) (ones_apply _))) (congrArg Ideal.tanh ?_)
  refine (addf_apply _ _ _).trans ?_
  rw [mulf_apply, logistic_eq, addf_apply, gate_slice 256 (by decide), gate_slice 256 (by decide), gate_slice 0 (by decide),
    gate_slice 0 (by decide)]

/-- The trip at counter zero from the zero state makes the specification's state. -/
theorem firstState (hc : V0 (Proc.devRef .tc main_v2_5) = fun _ => (0#32 : BitVec 32))
    (hh : V0 (Proc.devRef .tc main_v2_6) = fun _ => (0 : EReal)) (r : Fin 16) (u : Fin 128) :
    ht V0 (ix2 r u) = Cert.Gru.state (Cert.Gru.inGate (V0 (Proc.devRef .tc main_v2_0))
      (V0 (Proc.devRef .tc main_v2_1)) (V0 (Proc.devRef .tc main_v2_2))) (V0 (Proc.devRef .tc main_v2_4)) r u := by
  rw [state_apply, update_apply, inGate_eq V0 hc, inGate_eq V0 hc, inGate_eq V0 hc, recGate_eq V0 hh, recGate_eq V0 hh,
    recGate_eq V0 hh, show hp V0 (ix2 r u) = 0 from congrFun hh _]
  refine (congrArg (_ + ·) (mul_zero _)).trans (add_zero _)

end Cert.ReferenceIdeal.Gru

end
-- ==== Proof.RefLoop.lean ====
/- What the reference's loop leaves: the first row of the stacked states is written by the first trip and by no later one,
   so after all the trips it is the specification's state. -/
module

public import proofs.«01_k».proof.Proof.RefTrip
public import Idealize.ShloMosaic.Lib.Pointwise.ShapeOpsCore

@[expose] public section

noncomputable section

namespace Cert.ReferenceIdeal.Gru

open Cert.ReferenceIdeal Cert.ReferenceIdeal.Gen Cert.ReferenceIdeal.Value Idealize.ShloMosaic.TcCoe
  Idealize.ShloMosaic.StableHlo Idealize.ShloMosaic.ValueIdx
open Idealize.ShloMosaic hiding ix1 ix2 ix3

/-- Writing block `n` of the stack changes its first row exactly when `n` is zero. -/
theorem stack_row (ys : FVec Ideal S2048x16x128 .f32) (h : FVec Ideal S16x128 .f32) (start : Fin 3 → Int) (n : ℕ) (hn : n < 2048)
    (s0 : start 0 = n) (s1 : start 1 = 0) (s2 : start 2 = 0) (r : Fin 16) (u : Fin 128) :
    Host.dynamicUpdateSlice ys (broadcastInDim S1x16x128 ![1, 2] bcast_S16x128_S1x16x128_1_2 h) start
        updateFits_S2048x16x128_S1x16x128 (ix3 (0 : Fin 2048) r u)
      = if n = 0 then h (ix2 r u) else ys (ix3 (0 : Fin 2048) r u) := by
  have c0 := Host.clampedStart_of_le (s := S2048x16x128) (t := S1x16x128) rfl start (0 : Fin 3) n s0 (by show n + 1 ≤ 2048; omega)
  have c1 := Host.clampedStart_of_le (s := S2048x16x128) (t := S1x16x128) rfl start (1 : Fin 3) 0 s1 (by decide)
  have c2 := Host.clampedStart_of_le (s := S2048x16x128) (t := S1x16x128) rfl start (2 : Fin 3) 0 s2 (by decide)
  rw [Host.dynamicUpdateSlice_apply]
  by_cases h0 : n = 0
  · subst h0
    rw [if_pos rfl, dif_pos (fun a => by
      match a with
      | ⟨0, _⟩ => exact ⟨le_of_eq_of_le c0 (Nat.le_refl 0), lt_of_lt_of_eq Nat.zero_lt_one (congrArg (· + 1) c0).symm⟩
      | ⟨1, _⟩ => exact ⟨le_of_eq_of_le c1 (Nat.zero_le _), lt_of_lt_of_eq r.isLt ((congrArg (· + 16) c1).trans (Nat.zero_add 16)).symm⟩
      | ⟨2, _⟩ => exact ⟨le_of_eq_of_le c2 (Nat.zero_le _), lt_of_lt_of_eq u.isLt ((congrArg (· + 128) c2).trans (Nat.zero_add 128)).symm⟩)]
    refine broadcastInDim_apply _ _ _ _ (ix2 r u) fun a => ?_
    match a with
    | ⟨0, _⟩ => exact (congrArg (r.val - ·) c1).symm
    | ⟨1, _⟩ => exact (congrArg (u.val - ·) c2).symm
  · rw [if_neg h0, dif_neg]
    intro hin
    have h1 : Host.clampedStart S2048x16x128 S1x16x128 rfl start (0 : Fin 3) ≤ 0 := (hin (0 : Fin 3)).1
    rw [c0] at h1
    omega

variable (V0 : Valuation τ sig (Elt Ideal))

/-- A trip at counter `n` steps the counter. -/
theorem step_counter (n : ℕ) (hc : V0 (Proc.devRef .tc main_v2_5) = fun _ => BitVec.ofNat 32 n) :
    STEP V0 (Proc.devRef .tc main_v2_5) = fun _ => BitVec.ofNat 32 (n + 1) := by
  rw [STEP_main_v2_5]
  unfold step_main_v2_5
  rw [hc]
  funext i
  show BitVec.ofNat 32 n + 1#32 = BitVec.ofNat 32 (n + 1)
  exact (BitVec.ofNat_add n 1).symm

/-- A trip at counter `n` writes the first row of the stack exactly when `n` is zero. -/
theorem step_stack (n : ℕ) (hn : n < 2048) (hc : V0 (Proc.devRef .tc main_v2_5) = fun _ => BitVec.ofNat 32 n) (r : Fin 16)
    (u : Fin 128) : STEP V0 (Proc.devRef .tc main_v2_7) (ix3 (0 : Fin 2048) r u)
      = if n = 0 then res_main_while0b_v49 V0 (ix2 r u) else V0 (Proc.devRef .tc main_v2_7) (ix3 (0 : Fin 2048) r u) := by
  rw [STEP_main_v2_7]
  unfold step_main_v2_7
  rw [hc]
  exact stack_row _ _ _ n hn (toInt_ofNat_of_lt (by omega)) rfl rfl r u

/-- After `k + 1` trips from counter zero the counter is `k + 1` and the first row of the stack is the first trip's state. -/
theorem trips (hc : V0 (Proc.devRef .tc main_v2_5) = fun _ => (0#32 : BitVec 32)) : ∀ k : ℕ, k < 2048 →
    (STEP^[k + 1] V0) (Proc.devRef .tc main_v2_5) = (fun _ => BitVec.ofNat 32 (k + 1))
      ∧ ∀ (r : Fin 16) (u : Fin 128), (STEP^[k + 1] V0) (Proc.devRef .tc main_v2_7) (ix3 (0 : Fin 2048) r u)
          = res_main_while0b_v49 V0 (ix2 r u)
  | 0, _ => ⟨step_counter V0 0 hc, fun r u => (step_stack V0 0 (by decide) hc r u).trans (if_pos rfl)⟩
  | k + 1, hk => by
    obtain ⟨hctr, hrow⟩ := trips hc k (by omega)
    rw [Function.iterate_succ_apply']
    exact ⟨step_counter _ (k + 1) hctr, fun r u =>
      (step_stack _ (k + 1) hk hctr r u).trans ((if_neg (Nat.succ_ne_zero k)).trans (hrow r u))⟩

variable (m : (ℓ : Loc nD τ sig) → Buf (Elt Ideal) ℓ) (c : Dev nD)

/-- The loop starts with the sequence in its first carried buffer. -/
theorem entry_x : entryContents preI m c (Proc.devRef .tc main_v2_0) = m ((c : Thread nD τ).loc main_arg0) := by
  simp only [entryContents, afterL_cons, afterL_nil]
  after_reads_simp
  rfl

/-- The loop starts with the input weight in its second carried buffer. -/
theorem entry_wi : entryContents preI m c (Proc.devRef .tc main_v2_1) = m ((c : Thread nD τ).loc main_arg1) := by
  simp only [entryContents, afterL_cons, afterL_nil]
  after_reads_simp
  rfl

/-- The loop starts with the input bias in its third carried buffer. -/
theorem entry_bi : entryContents preI m c (Proc.devRef .tc main_v2_2) = m ((c : Thread nD τ).loc main_arg3) := by
  simp only [entryContents, afterL_cons, afterL_nil]
  after_reads_simp
  rfl

/-- The loop starts with the recurrent bias in its fifth carried buffer. -/
theorem entry_bh : entryContents preI m c (Proc.devRef .tc main_v2_4) = m ((c : Thread nD τ).loc main_arg4) := by
  simp only [entryContents, afterL_cons, afterL_nil]
  after_reads_simp
  rfl

/-- The loop starts from the zero state. -/
theorem entry_h : entryContents preI m c (Proc.devRef .tc main_v2_6) = fun _ => (0 : EReal) := by
  simp only [entryContents, afterL_cons, afterL_nil]
  after_reads_simp
  funext j
  refine (broadcastInDim_scalar_apply _ _ j).trans ?_
  rw [constant_apply]
  exact Ideal.ofBits_zero_f32

/-- After all the trips the first row of the stack is the specification's state of the arguments. -/
theorem loop_row (r : Fin 16) (u : Fin 128) :
    (STEP^[2048] (entryContents preI m c)) (Proc.devRef .tc main_v2_7) (ix3 (0 : Fin 2048) r u)
      = Cert.Gru.state (Cert.Gru.inGate (m ((c : Thread nD τ).loc main_arg0)) (m ((c : Thread nD τ).loc main_arg1))
          (m ((c : Thread nD τ).loc main_arg3))) (m ((c : Thread nD τ).loc main_arg4)) r u := by
  refine ((trips _ (ctr_entry m c) 2047 (by decide)).2 r u).trans ?_
  refine (firstState _ (ctr_entry m c) (entry_h m c) r u).trans ?_
  rw [entry_x, entry_wi, entry_bi, entry_bh]

end Cert.ReferenceIdeal.Gru

end
-- ==== Proof.RefValue.lean ====
/- What the reference computes after its loop: the linear layer on the stack of states, its first row, and the logarithm of
   the softmax of that row, which is the specification's result. -/
module

public import proofs.«01_k».proof.Proof.RefLoop
public import proofs.«01_k».proof.Proof.Payload

@[expose] public section

noncomputable section

namespace Cert.ReferenceIdeal.Gru

open Cert.ReferenceIdeal Cert.ReferenceIdeal.Gen Cert.ReferenceIdeal.Value Idealize.ShloMosaic.TcCoe
  Idealize.ShloMosaic.StableHlo Idealize.ShloMosaic.ValueIdx
open Idealize.ShloMosaic hiding ix1 ix2 ix3

/-- The product of the stack with a weight at slice `s`, batch row `r` and class `t` is the sum over the units. -/
theorem stackDot_apply (ys : FVec Ideal S2048x16x128 .f32) (w : FVec Ideal S128x10 .f32) (s : Fin 2048) (r : Fin 16) (t : Fin 10) :
    Host.dotGeneral dot_S2048x16x128_S128x10_S2048x16x10_2_0_01_1_n_n none ys w (ix3 s r t)
      = ∑ u : Fin 128, ys (ix3 s r u) * w (ix2 u t) := by
  show FloatOps.dotGeneral _ none _ ys w (ix3 s r t) = _
  rw [Ideal.dotGeneral_apply,
    ← Equiv.sum_comp (contrEquiv1 dot_S2048x16x128_S128x10_S2048x16x10_2_0_01_1_n_n 128 rfl rfl).symm]
  refine Finset.sum_congr rfl fun u _ => ?_
  have e := contrEquiv1_symm_val dot_S2048x16x128_S128x10_S2048x16x10_2_0_01_1_n_n 128 rfl rfl u
  refine congrArg₂ (fun i j => ys i * w j) (funext fun a => Fin.ext ?_) (funext fun a => Fin.ext ?_)
  · match a with
    | ⟨0, _⟩ => simp [DotDims.lhsIdx, dot_S2048x16x128_S128x10_S2048x16x10_2_0_01_1_n_n]; rfl
    | ⟨1, _⟩ => simp [DotDims.lhsIdx, dot_S2048x16x128_S128x10_S2048x16x10_2_0_01_1_n_n]; rfl
    | ⟨2, _⟩ => simp [DotDims.lhsIdx, dot_S2048x16x128_S128x10_S2048x16x10_2_0_01_1_n_n]; exact e
  · match a with
    | ⟨0, _⟩ => simp [DotDims.rhsIdx, dot_S2048x16x128_S128x10_S2048x16x10_2_0_01_1_n_n]; exact e
    | ⟨1, _⟩ => simp [DotDims.rhsIdx, dot_S2048x16x128_S128x10_S2048x16x10_2_0_01_1_n_n]; rfl

/-- The first row of the logits, as the reference computes it from the stack. -/
def firstLogits (ys : FVec Ideal S2048x16x128 .f32) (w : FVec Ideal S10x128 .f32) (b : FVec Ideal S10 .f32) : FVec Ideal S16x10 .f32 :=
  shapeCast S16x10 (extractStridedSlice S1x16x10 ![0, 0, 0]
    (addf (Host.dotGeneral dot_S2048x16x128_S128x10_S2048x16x10_2_0_01_1_n_n none ys (transpose S128x10 [1, 0] w transposes_S10x128_S128x10_1_0))
      (broadcastInDim S2048x16x10 ![0, 1, 2] bcast_S1x1x10_S2048x16x10_0_1_2 (broadcastInDim S1x1x10 ![2] bcast_S10_S1x1x10_2 b)))
    slices_S2048x16x10_S1x16x10_0_0_0) shapeCasts_S1x16x10_S16x10

/-- A row array less the largest entry of each row, as the reference computes it. -/
def shifted (l : FVec Ideal S16x10 .f32) : FVec Ideal S16x10 .f32 :=
  subf l (broadcastInDim S16x10 ![0, 1] bcast_S16x1_S16x10_0_1 (broadcastInDim S16x1 ![0] bcast_S16_S16x1_0
    (maximumf (broadcastInDim S16 ![] bcast_S_S16 (constant S_ .f32 0xFF800000#32))
      (Host.reduce FloatOps.maximumf l (constant S_ .f32 0xFF800000#32) reducesTo_S16x10_S16_d1 h_S_))))

/-- A shifted array less the logarithm of the sum of each row's exponentials, as the reference computes it. -/
def normalized (d : FVec Ideal S16x10 .f32) : FVec Ideal S16x10 .f32 :=
  subf d (broadcastInDim S16x10 ![0, 1] bcast_S16x1_S16x10_0_1 (Host.log (broadcastInDim S16x1 ![0] bcast_S16_S16x1_0
    (Host.reduceAdd (Host.exp d) (constant S_ .f32 0x00000000#32) reducesTo_S16x10_S16_d1 h_S_))))

set_option maxRecDepth 8192 in
/-- The reference's output is these pieces in turn. -/
theorem out_eq (V0 : Valuation τ sig (Elt Ideal)) : out_main_v10 V0 = normalized (shifted (firstLogits
    (V0 (Proc.devRef .tc main_v2_7)) (V0 (Proc.devRef .tc main_arg5)) (V0 (Proc.devRef .tc main_arg6)))) := rfl

/-- The first row of the logits at batch row `r` and class `t` is the specification's logit of the stack's first row. -/
theorem firstLogits_apply (ys : FVec Ideal S2048x16x128 .f32) (w : FVec Ideal S10x128 .f32) (b : FVec Ideal S10 .f32) (r : Fin 16)
    (t : Fin 10) : firstLogits ys w b (ix2 r t) = Cert.Gru.logit (fun r u => ys (ix3 (0 : Fin 2048) r u)) w b r t := by
  unfold firstLogits
  rw [shapeCast_1ab_ab_apply]
  refine (extractStridedSlice_apply _ _ _ _ (ix3 (0 : Fin 2048) r t) fun a => ?_).trans ?_
  · match a with
    | ⟨0, _⟩ => rfl
    | ⟨1, _⟩ => exact (Nat.zero_add _).symm
    | ⟨2, _⟩ => exact (Nat.zero_add _).symm
  rw [addf_apply, stackDot_apply]
  refine congrArg₂ (· + ·) (Finset.sum_congr rfl fun u _ => by rw [transpose_ix2_apply]) ?_
  refine (broadcastInDim_apply _ _ _ _ (ix3 (0 : Fin 1) (0 : Fin 1) t) fun a => match a with | ⟨0, _⟩ => rfl | ⟨1, _⟩ => rfl | ⟨2, _⟩ => rfl).trans ?_
  exact broadcastInDim_apply _ _ _ _ (ix1 t) fun a => match a with | ⟨0, _⟩ => rfl

/-- A column repeated along the rows reads the column at the row. -/
theorem column_apply (x : FVec Ideal S16x1 .f32) (r : Fin 16) (t : Fin 10) :
    broadcastInDim S16x10 ![0, 1] bcast_S16x1_S16x10_0_1 x (ix2 r t) = x (ix2 r (0 : Fin 1)) :=
  broadcastInDim_apply _ _ _ _ _ fun a => match a with | ⟨0, _⟩ => rfl | ⟨1, _⟩ => rfl

/-- A vector set up as a column reads the vector. -/
theorem toColumn_apply (x : FVec Ideal S16 .f32) (r : Fin 16) :
    broadcastInDim S16x1 ![0] bcast_S16_S16x1_0 x (ix2 r (0 : Fin 1)) = x (ix1 r) :=
  broadcastInDim_apply _ _ _ _ _ fun a => match a with | ⟨0, _⟩ => rfl

/-- A shifted array at an index is the entry less its row's largest entry. -/
theorem shifted_apply (l : FVec Ideal S16x10 .f32) (r : Fin 16) (t : Fin 10) :
    shifted l (ix2 r t) = l (ix2 r t) - Cert.Gru.top fun t => l (ix2 r t) := by
  unfold shifted
  rw [subf_apply, column_apply, toColumn_apply, maximumf_apply, broadcastInDim_scalar_apply, constant_apply,
    hostReduce_maximumf_eq_multiReduction l 0xFF800000#32 _ _ Cert.KernelIdeal.Gen.reduces_S16x10_S16 (.inl rfl) rfl]
  refine congrArg (l (ix2 r t) - ·) ((congrArg₂ max Cert.Gru.ofBits_negInf (Cert.KernelIdeal.Gru.rowMax_apply l r)).trans ?_)
  exact max_eq_right bot_le

/-- A normalized array at an index is the entry less the logarithm of its row's sum of exponentials. -/
theorem normalized_apply (d : FVec Ideal S16x10 .f32) (r : Fin 16) (t : Fin 10) :
    normalized d (ix2 r t) = d (ix2 r t) - Ideal.log (∑ s : Fin 10, Ideal.exp (d (ix2 r s))) := by
  unfold normalized
  rw [subf_apply, column_apply]
  refine congrArg (fun z => d (ix2 r t) - Ideal.log z) ((toColumn_apply _ r).trans ?_)
  rw [← multiReduction_add_eq_hostReduceAdd (Host.exp d) 0x00000000#32 Cert.KernelIdeal.Gen.reduces_S16x10_S16 (.inl rfl) rfl
    (constant S_ .f32 0x00000000#32) reducesTo_S16x10_S16_d1 h_S_ Ideal.ofBits_zero_f32]
  exact Cert.KernelIdeal.Gru.rowSum_apply _ r

/-- The two together are the specification's logarithm of the softmax. -/
theorem logSoftmax_apply (l : FVec Ideal S16x10 .f32) (r : Fin 16) (t : Fin 10) :
    normalized (shifted l) (ix2 r t) = Cert.Gru.logSoftmax (fun t => l (ix2 r t)) t := by
  rw [normalized_apply, shifted_apply]
  exact congrArg (fun z => _ - Ideal.log z) (Finset.sum_congr rfl fun s _ => congrArg Ideal.exp (shifted_apply l r s))

variable (m : (ℓ : Loc nD τ sig) → Buf (Elt Ideal) ℓ) (c : Dev nD)

/-- The specification's result of the reference's argument arrays, as contents of its result array. -/
abbrev result : Buf (Elt Ideal) ((c : Thread nD τ).loc main_v10) :=
  Cert.Gru.result (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6))

/-- The reference's output is the result. -/
theorem out_result : out_main_v10 (STEP^[2048] (entryContents preI m c)) = result m c := by
  rw [out_eq, iter_main_arg5, iter_main_arg6]
  funext j
  obtain ⟨r, t, rfl⟩ : ∃ (r : Fin 16) (t : Fin 10), j = ix2 r t := ⟨j 0, j 1, ValueIdx.eq_ix2 j⟩
  refine (logSoftmax_apply _ r t).trans (congrArg (Cert.Gru.logSoftmax · t) (funext fun t => ?_))
  refine (firstLogits_apply _ _ _ r t).trans (congrArg (Cert.Gru.logit · _ _ r t) (funext fun r => funext fun u => ?_))
  exact loop_row m c r u

end Cert.ReferenceIdeal.Gru

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates, leaves its arguments as launched and ends with every semaphore counter at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- From equal arguments the kernel and the reference, both over the extended reals, end with equal results. -/
theorem equal : Cert.algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Gru.result m c, ?_, ?_⟩
  · exact (θ_run _ _ _).mono (fun r h c => ⟨(h c).1.trans (Cert.KernelIdeal.Gru.array_eq m c), (h c).2⟩)
      (Cert.KernelIdeal.Value.run_blocks m g)
  · refine (θ_run _ _ _).mono (fun r h c => ⟨(h c).1.trans ((Cert.ReferenceIdeal.Gru.out_result m' c).trans ?_), (h c).2⟩)
      (Cert.ReferenceIdeal.Value.run m' g')
    obtain ⟨h0, h1, _, h3, h4, h5, h6⟩ := hargs c
    show Cert.Gru.result _ _ _ _ _ _ = Cert.Gru.result _ _ _ _ _ _
    rw [h0, h1, h3, h4, h5, h6]

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
